-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x8192x768 : Shape := ⟨3, ![4, 8192, 768]⟩
abbrev S64x768 : Shape := ⟨2, ![64, 768]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S64x768 : S_.BroadcastsInDim S64x768 (![] : Fin 0 → Fin S64x768.rank)
  reducesTo_S64x768_S_d0_1 : S64x768.ReducesTo [0, 1] S_

variable [Facts]

def fn {F : FTy → Type} [FloatOps F] (main_arg0 : FVec F S4x8192x768 .f32) (main_arg1 : FVec F S64x768 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  main_v8
-- ==== Kernel.lean ====
abbrev S4x8192x768 : Shape := ⟨3, ![4, 8192, 768]⟩
abbrev S64x768 : Shape := ⟨2, ![64, 768]⟩
abbrev S2x32768 : Shape := ⟨2, ![2, 32768]⟩
abbrev S1x1 : Shape := ⟨2, ![1, 1]⟩
abbrev S1x4096x768 : Shape := ⟨3, ![1, 4096, 768]⟩
abbrev S2x4096 : Shape := ⟨2, ![2, 4096]⟩
abbrev S64x1 : Shape := ⟨2, ![64, 1]⟩
abbrev S4096x768 : Shape := ⟨2, ![4096, 768]⟩
abbrev S64x4096 : Shape := ⟨2, ![64, 4096]⟩
abbrev S4096 : Shape := ⟨1, ![4096]⟩
abbrev S1x4096 : Shape := ⟨2, ![1, 4096]⟩
abbrev S64 : Shape := ⟨1, ![64]⟩
abbrev S1x64x1 : Shape := ⟨3, ![1, 64, 1]⟩
abbrev S1 : Shape := ⟨1, ![1]⟩
abbrev S1x1x1 : Shape := ⟨3, ![1, 1, 1]⟩
abbrev S2x4x8192 : Shape := ⟨3, ![2, 4, 8192]⟩
abbrev S4x8192x2 : Shape := ⟨3, ![4, 8192, 2]⟩
abbrev S_ : Shape := ⟨0, ![]⟩

abbrev nBuf : Space → Nat
  | .hbm => 10
  | .vmem => 10
  | .smem => 0
  | _ => 0

abbrev bufTy : (tb : Table) → Fin (tcTables nBuf tb) → BufTy
  | .hbm, ⟨0, _⟩ => ⟨S4x8192x768, .f32⟩
  | .hbm, ⟨1, _⟩ => ⟨S64x768, .f32⟩
  | .hbm, ⟨2, _⟩ => ⟨S2x32768, .i32⟩
  | .hbm, ⟨3, _⟩ => ⟨S2x32768, .f32⟩
  | .hbm, ⟨4, _⟩ => ⟨S1x1, .f32⟩
  | .hbm, ⟨5, _⟩ => ⟨S2x4x8192, .i32⟩
  | .hbm, ⟨6, _⟩ => ⟨S4x8192x2, .i32⟩
  | .hbm, ⟨7, _⟩ => ⟨S2x4x8192, .f32⟩
  | .hbm, ⟨8, _⟩ => ⟨S4x8192x2, .f32⟩
  | .hbm, ⟨9, _⟩ => ⟨S_, .f32⟩
  | .local _ .vmem, ⟨0, _⟩ => ⟨S1x4096x768, .f32⟩
  | .local _ .vmem, ⟨1, _⟩ => ⟨S1x4096x768, .f32⟩
  | .local _ .vmem, ⟨2, _⟩ => ⟨S64x768, .f32⟩
  | .local _ .vmem, ⟨3, _⟩ => ⟨S2x4096, .i32⟩
  | .local _ .vmem, ⟨4, _⟩ => ⟨S2x4096, .i32⟩
  | .local _ .vmem, ⟨5, _⟩ => ⟨S2x4096, .f32⟩
  | .local _ .vmem, ⟨6, _⟩ => ⟨S2x4096, .f32⟩
  | .local _ .vmem, ⟨7, _⟩ => ⟨S1x1, .f32⟩
  | .local _ .vmem, ⟨8, _⟩ => ⟨S64x1, .f32⟩
  | .local _ .vmem, ⟨9, _⟩ => ⟨S64x1, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg0 : BitVec 32 := BitVec.ofNat 32 (i 0).val
  let c3_i32 : BitVec 32 := 3#32
  let v57 : BitVec 1 := Scalar.cmpi .eq arg0 c3_i32
  let arg1 : BitVec 32 := BitVec.ofNat 32 (i 1).val
  let c1_i32 : BitVec 32 := 1#32
  let v58 : BitVec 1 := Scalar.cmpi .eq arg1 c1_i32
  let v59 : BitVec 1 := Scalar.andi v57 v58
  let v65 : BitVec 32 := Scalar.extui v59
  let c0_i32_23 : BitVec 32 := 0#32
  let v66 : BitVec 1 := Scalar.cmpi .ne v65 c0_i32_23
  v66

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== ReferenceIdeal.lean ====
abbrev S4x8192x768 : Shape := ⟨3, ![4, 8192, 768]⟩
abbrev S64x768 : Shape := ⟨2, ![64, 768]⟩
abbrev S4x8192x64 : Shape := ⟨3, ![4, 8192, 64]⟩
abbrev S_ : Shape := ⟨0, ![]⟩
abbrev S4x8192 : Shape := ⟨2, ![4, 8192]⟩
abbrev S4x8192x1 : Shape := ⟨3, ![4, 8192, 1]⟩
abbrev S4x8192x2 : Shape := ⟨3, ![4, 8192, 2]⟩
abbrev S64 : Shape := ⟨1, ![64]⟩
abbrev S4x8192x2x1 : Shape := ⟨4, ![4, 8192, 2, 1]⟩
abbrev S1x1x1x64 : Shape := ⟨4, ![1, 1, 1, 64]⟩
abbrev S4x8192x2x64 : Shape := ⟨4, ![4, 8192, 2, 64]⟩

abbrev nBuf : Space → Nat
  | .hbm => 52
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S64x768, .f32⟩
  | .hbm, ⟨2, _⟩ => ⟨S4x8192x64, .f32⟩
  | .hbm, ⟨3, _⟩ => ⟨S_, .f32⟩
  | .hbm, ⟨4, _⟩ => ⟨S4x8192, .f32⟩
  | .hbm, ⟨5, _⟩ => ⟨S_, .f32⟩
  | .hbm, ⟨6, _⟩ => ⟨S4x8192, .f32⟩
  | .hbm, ⟨7, _⟩ => ⟨S4x8192, .f32⟩
  | .hbm, ⟨8, _⟩ => ⟨S4x8192x1, .f32⟩
  | .hbm, ⟨9, _⟩ => ⟨S4x8192x64, .f32⟩
  | .hbm, ⟨10, _⟩ => ⟨S4x8192x64, .f32⟩
  | .hbm, ⟨11, _⟩ => ⟨S4x8192x64, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S4x8192x64, .f32⟩
  | .hbm, ⟨16, _⟩ => ⟨S4x8192x64, .f32⟩
  | .hbm, ⟨17, _⟩ => ⟨S4x8192x2, .f32⟩
  | .hbm, ⟨18, _⟩ => ⟨S4x8192x2, .i32⟩
  | .hbm, ⟨19, _⟩ => ⟨S_, .f32⟩
  | .hbm, ⟨20, _⟩ => ⟨S4x8192, .f32⟩
  | .hbm, ⟨21, _⟩ => ⟨S4x8192x1, .f32⟩
  | .hbm, ⟨22, _⟩ => ⟨S_, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S4x8192x2, .f32⟩
  | .hbm, ⟨27, _⟩ => ⟨S4x8192x2, .f32⟩
  | .hbm, ⟨28, _⟩ => ⟨S_, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S4x8192x2x1, .i32⟩
  | .hbm, ⟨34, _⟩ => ⟨S1x1x1x64, .i32⟩
  | .hbm, ⟨35, _⟩ => ⟨S4x8192x2x64, .i32⟩
  | .hbm, ⟨36, _⟩ => ⟨S4x8192x2x64, .i32⟩
  | .hbm, ⟨37, _⟩ => ⟨S4x8192x2x64, .i1⟩
  | .hbm, ⟨38, _⟩ => ⟨S4x8192x2x64, .f32⟩
  | .hbm, ⟨39, _⟩ => ⟨S_, .f32⟩
  | .hbm, ⟨40, _⟩ => ⟨S4x8192x64, .f32⟩
  | .hbm, ⟨41, _⟩ => ⟨S_, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S_, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_values : Ref sig .tc := ⟨.hbm, 17, rfl⟩
abbrev main_indices : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v20 : Ref sig .tc := ⟨.hbm, 38, rfl⟩
abbrev main_cst_6 : Ref sig .tc := ⟨.hbm, 39, rfl⟩
abbrev main_v21 : Ref sig .tc := ⟨.hbm, 40, rfl⟩
abbrev main_cst_7 : Ref sig .tc := ⟨.hbm, 41, rfl⟩
abbrev main_v22 : Ref sig .tc := ⟨.hbm, 42, rfl⟩
abbrev main_cst_8 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_9 : Ref sig .tc := ⟨.hbm, 47, rfl⟩
abbrev main_v26 : Ref sig .tc := ⟨.hbm, 48, rfl⟩
abbrev main_v27 : Ref sig .tc := ⟨.hbm, 49, rfl⟩
abbrev main_cst_10 : Ref sig .tc := ⟨.hbm, 50, rfl⟩
abbrev main_v28 : Ref sig .tc := ⟨.hbm, 51, rfl⟩

abbrev nD : Nat := 1
abbrev τ : Topo := Topo.v7x

variable {F : FTy → Type} [FloatOps F]
-- ==== Proof.Frames.lean ====
/- The frame of the reference: its generated run read at the two arguments. The program declares no semaphore, so
   every counter is zero at the end as at the start. -/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The reference terminates with its arguments as they were and every counter at zero. -/
theorem reference_frame : Cert.quiescent_ReferenceIdeal := fun m ρ _ =>
  (θ_run Cert.ReferenceIdeal.defs _ _).mono
    (fun r h => ⟨fun c => ⟨(h c).2.2.2.1, (h c).2.2.2.2⟩, sem_eq_zero_of_no_sems (by decide) r.2⟩)
    (Cert.ReferenceIdeal.Value.run (F := Ideal) m ρ)

end Cert.Proof

end
-- ==== Proof.Rows.lean ====
/-
  One row of expert scores, as mathematics: which two experts are the first and the second of the row, how a fold of
  `max`, a fold of the signed word `min` and a stable sort each find them, and what the softmax of a real row is.
-/
module

public import Idealize.ShloMosaic.Lib.SortPrefix
public import Idealize.ShloMosaic.Lib.SortNet.Extract
public import Idealize.ShloMosaic.PureOps.Ideal

@[expose] public section

noncomputable section

namespace Cert.Proof

open Idealize.ShloMosaic

/-! ## The first and the second of a row -/

/-- `a` holds the greatest entry of the row and `b` the greatest of the others; among equals the lower number is taken. -/
structure IsTop2 {κ : Type} [LinearOrder κ] (l : Fin 64 → κ) (a b : Fin 64) : Prop where
  ne : b ≠ a
  le_a : ∀ e, l e ≤ l a
  first_a : ∀ e, l e = l a → a ≤ e
  le_b : ∀ e, e ≠ a → l e ≤ l b
  first_b : ∀ e, e ≠ a → l e = l b → b ≤ e

/-- A nonempty set of positions has one of greatest entry and, among those, of lowest number. -/
theorem exists_first_max {κ : Type} [LinearOrder κ] (l : Fin 64 → κ) (s : Finset (Fin 64)) (hs : s.Nonempty) :
    ∃ a ∈ s, (∀ e ∈ s, l e ≤ l a) ∧ ∀ e ∈ s, l e = l a → a ≤ e := by
  obtain ⟨c, hc, hmax⟩ := Finset.exists_max_image s l hs
  have hn : (s.filter fun e => l e = l c).Nonempty := ⟨c, Finset.mem_filter.mpr ⟨hc, rfl⟩⟩
  obtain ⟨a, ha, hmin⟩ := Finset.exists_min_image (s.filter fun e => l e = l c) id hn
  obtain ⟨ha, hac⟩ := Finset.mem_filter.mp ha
  exact ⟨a, ha, fun e he => hac ▸ hmax e he, fun e he h => hmin e (Finset.mem_filter.mpr ⟨he, h.trans hac⟩)⟩

/-- Every row has a first and a second. -/
theorem exists_isTop2 {κ : Type} [LinearOrder κ] (l : Fin 64 → κ) : ∃ q : Fin 64 × Fin 64, IsTop2 l q.1 q.2 := by
  obtain ⟨a, -, ha, ha'⟩ := exists_first_max l Finset.univ ⟨0, Finset.mem_univ _⟩
  obtain ⟨b, hb, hb1, hb2⟩ := exists_first_max l (Finset.univ.erase a) (by
    refine Finset.card_pos.mp ?_
    rw [Finset.card_erase_of_mem (Finset.mem_univ a), Finset.card_univ, Fintype.card_fin]
    decide)
  have hm : ∀ e, e ≠ a → e ∈ Finset.univ.erase a := fun e he => Finset.mem_erase.mpr ⟨he, Finset.mem_univ _⟩
  exact ⟨(a, b), (Finset.mem_erase.mp hb).1, fun e => ha e (Finset.mem_univ _), fun e => ha' e (Finset.mem_univ _),
    fun e he => hb1 e (hm e he), fun e he => hb2 e (hm e he)⟩

/-- The first and the second of a row. -/
def top2 {κ : Type} [LinearOrder κ] (l : Fin 64 → κ) : Fin 64 × Fin 64 := (exists_isTop2 l).choose

theorem isTop2_top2 {κ : Type} [LinearOrder κ] (l : Fin 64 → κ) : IsTop2 l (top2 l).1 (top2 l).2 :=
  (exists_isTop2 l).choose_spec

/-- A strictly increasing change of the entries leaves the first and the second where they are. -/
theorem IsTop2.comp {κ κ' : Type} [LinearOrder κ] [LinearOrder κ'] {l : Fin 64 → κ} {a b : Fin 64} (h : IsTop2 l a b)
    {f : κ → κ'} (hf : StrictMono f) : IsTop2 (fun e => f (l e)) a b where
  ne := h.ne
  le_a e := hf.monotone (h.le_a e)
  first_a e he := h.first_a e (hf.injective he)
  le_b e he := hf.monotone (h.le_b e he)
  first_b e he heq := h.first_b e he (hf.injective heq)

/-! ## Folds that find them -/

/-- The fold of `max` from `⊥` is the greatest entry. -/
theorem fold_max_eq {f : Fin 64 → EReal} {x : EReal} (hle : ∀ e, f e ≤ x) (hx : ∃ e, f e = x) :
    Finset.univ.fold max ⊥ f = x := by
  obtain ⟨e, he⟩ := hx
  refine le_antisymm ((Finset.fold_max_le x).mpr ⟨bot_le, fun i _ => hle i⟩) ?_
  exact (Finset.le_fold_max x).mpr (Or.inr ⟨e, Finset.mem_univ _, he.ge⟩)

theorem toInt_ofNat_fin (e : Fin 64) : (BitVec.ofNat 32 e.val).toInt = (e.val : ℤ) := by
  revert e
  decide

theorem ofNat_fin_inj (e e' : Fin 64) : BitVec.ofNat 32 e.val = BitVec.ofNat 32 e'.val ↔ e = e' := by
  refine ⟨fun h => Fin.ext ?_, fun h => h ▸ rfl⟩
  have := congrArg BitVec.toInt h
  rw [toInt_ofNat_fin, toInt_ofNat_fin] at this
  exact_mod_cast this

/-- The least of the numbers at which `p` holds, `64` standing in elsewhere, is the first position at which `p` holds. -/
theorem fold_minsi_first (p : Fin 64 → Prop) [DecidablePred p] (a : Fin 64) (ha : p a) (hmin : ∀ e, p e → a ≤ e) :
    Finset.univ.fold IntOp.minsi (2147483647#32) (fun e : Fin 64 => if p e then BitVec.ofNat 32 e.val else 64#32)
      = BitVec.ofNat 32 a.val := by
  refine BitVec.eq_of_toInt_eq ?_
  rw [← Finset.fold_hom (op := IntOp.minsi) (op' := min) (m := BitVec.toInt) (fun x y => SortNet.toInt_minsi x y),
    toInt_ofNat_fin]
  have hlt := a.isLt
  refine le_antisymm ((Finset.fold_min_le _).mpr (Or.inr ⟨a, Finset.mem_univ _, ?_⟩))
    ((Finset.le_fold_min _).mpr ⟨?_, fun e _ => ?_⟩)
  · rw [if_pos ha, toInt_ofNat_fin]
  · rw [show (2147483647#32).toInt = 2147483647 by decide]
    omega
  · split
    · rename_i h
      rw [toInt_ofNat_fin]
      exact_mod_cast hmin e h
    · rw [show (64#32).toInt = 64 by decide]
      omega

/-! ## The stable sort that finds them -/

/-- On a list in increasing order of position, a stable sort by `B` is the sort by `B` with ties settled by position. -/
theorem stableSort_tie {n : ℕ} (B R : Fin n → Fin n → Bool) (h : ∀ k k', k < k' → R k' k = B k' k)
    (l : List (Fin n)) (hl : l.Pairwise (· < ·)) : stableSort B l = stableSort R l := by
  induction l with
  | nil => rfl
  | cons a l ih =>
    rw [List.pairwise_cons] at hl
    unfold stableSort
    rw [ih hl.2]
    exact insertBefore_congr _ _ a _ fun b hb => (h a b (hl.1 b ((perm_stableSort R l).mem_iff.mp hb))).symm

/-- A stable sort of the positions by `B` is the sort by `B` with ties settled by position. -/
theorem sortedFrom_tie {n : ℕ} (B R : Fin n → Fin n → Bool) (h : ∀ k k', k < k' → R k' k = B k' k) :
    sortedFrom B = sortedFrom R := by
  have hs : sortPositions n B = sortPositions n R := stableSort_tie B R h _ (List.pairwise_lt_finRange n)
  funext k
  unfold sortedFrom
  rw [List.get_of_eq hs]
  rfl

/-- The stable sort of a row by "greater first" begins with the first and the second of the row. -/
theorem sortedFrom_top2 {κ : Type} [LinearOrder κ] {l : Fin 64 → κ} {a b : Fin 64} (h : IsTop2 l a b)
    (B : Fin 64 → Fin 64 → Bool) (hBl : ∀ k k', B k k' = decide (l k' < l k)) :
    sortedFrom B 0 = a ∧ sortedFrom B 1 = b := by
  have hR := StrictTotalBefore.of_key_then_position (fun x y : κ => decide (y < x)) l (fun x => by simp)
    (fun x y z hxy hyz => by simp only [decide_eq_true_eq] at *; exact hyz.trans hxy)
    (fun x y => by
      simp only [decide_eq_true_eq]
      rcases lt_trichotomy x y with h | h | h
      · exact Or.inr (Or.inr h)
      · exact Or.inr (Or.inl h)
      · exact Or.inl h)
  have heq : sortedFrom B = sortedFrom (fun k k' : Fin 64 => (fun x y : κ => decide (y < x)) (l k) (l k')
      || (decide (l k = l k') && decide (k < k'))) := by
    exact sortedFrom_tie _ _ fun k k' hk => by rw [hBl]; simp [not_lt.mpr hk.le]
  have key : ∀ i : Fin 2, sortedFrom B (i.castLE (by decide)) = ![a, b] i := fun i => by
    rw [heq]
    refine hR.sortedFrom_eq_of_prefix (by decide) ![a, b] ?_ ?_ ?_ i
    · intro i j hij
      fin_cases i <;> fin_cases j <;> simp_all [h.ne, h.ne.symm]
    · intro i j hij
      fin_cases i <;> fin_cases j <;> simp at hij ⊢
      exact ⟨h.le_a b, fun e => h.first_a b e⟩
    · intro i p hp
      have hpa : p ≠ a := fun e => hp 0 e.symm
      fin_cases i
      · show (decide (l a < l p) || (decide (l p = l a) && decide (p < a))) = false
        rw [decide_eq_false (not_lt.mpr (h.le_a p)), Bool.false_or, Bool.and_eq_false_imp]
        exact fun e => decide_eq_false (not_lt.mpr (h.first_a p (of_decide_eq_true e)))
      · simpa using And.intro (h.le_b p hpa) (h.first_b p hpa)
  have h0 : sortedFrom B 0 = a := key 0
  have h1 : sortedFrom B 1 = b := key 1
  exact ⟨h0, h1⟩

/-! ## Real rows inside the extended reals -/

/-- A sum of reals is a real. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

theorem exp_sub_coe (x y : ℝ) : Ideal.exp ((x : EReal) - (y : EReal)) = ((Real.exp (x - y) : ℝ) : EReal) := by
  rw [← EReal.coe_sub, Ideal.exp_coe]

theorem div_coe_coe (x : ℝ) {y : ℝ} (h : y ≠ 0) : Ideal.div (x : EReal) (y : EReal) = ((x / y : ℝ) : EReal) := by
  rw [Ideal.div_coe h, ← EReal.coe_mul]
  congr 1
  rw [mul_one_div]

/-- The denominator of the softmax of the row `l`, shifted by its entry at `a`. -/
def den (l : Fin 64 → ℝ) (a : Fin 64) : ℝ := ∑ e, Real.exp (l e - l a)

theorem den_pos (l : Fin 64 → ℝ) (a : Fin 64) : 0 < den l a :=
  Finset.sum_pos (fun _ _ => Real.exp_pos _) ⟨0, Finset.mem_univ _⟩

/-- The softmax of the row `l` at `e`, shifted by its entry at `a`. -/
def prob (l : Fin 64 → ℝ) (a e : Fin 64) : ℝ := Real.exp (l e - l a) / den l a

/-- The softmax is strictly increasing in the entry. -/
theorem prob_strictMono (l : Fin 64 → ℝ) (a : Fin 64) : StrictMono fun x : ℝ => Real.exp (x - l a) / den l a :=
  fun _ _ h => div_lt_div_of_pos_right (Real.exp_lt_exp.mpr (sub_lt_sub_right h _)) (den_pos l a)

/-- The share of the second expert against the first: `exp (l b - l a)`. -/
def ratio (l : Fin 64 → ℝ) (a b : Fin 64) : ℝ := Real.exp (l b - l a)

theorem prob_self (l : Fin 64 → ℝ) (a : Fin 64) : prob l a a = 1 / den l a := by
  rw [prob, sub_self, Real.exp_zero]

/-- The first expert's share of the two largest probabilities. -/
theorem share_first (l : Fin 64 → ℝ) (a b : Fin 64) :
    prob l a a / (prob l a a + prob l a b) = 1 / (1 + ratio l a b) := by
  have hd := (den_pos l a).ne'
  rw [prob_self, prob, ← ratio, ← add_div, div_div_div_cancel_right₀ hd]

/-- The second expert's share of the two largest probabilities. -/
theorem share_second (l : Fin 64 → ℝ) (a b : Fin 64) :
    prob l a b / (prob l a a + prob l a b) = ratio l a b * (1 / (1 + ratio l a b)) := by
  have hd := (den_pos l a).ne'
  rw [prob_self, prob, ← ratio, ← add_div, div_div_div_cancel_right₀ hd, mul_one_div]

/-- The largest probability of 64 is at least a 64th. -/
theorem one_div_le_prob (l : Fin 64 → ℝ) (a : Fin 64) (h : ∀ e, l e ≤ l a) : 1 / 64 ≤ prob l a a := by
  rw [prob_self]
  refine one_div_le_one_div_of_le (den_pos l a) ?_
  calc den l a ≤ ∑ _e : Fin 64, (1 : ℝ) := Finset.sum_le_sum fun e _ => by
        rw [← Real.exp_zero]; exact Real.exp_le_exp.mpr (sub_nonpos.mpr (h e))
    _ = 64 := by simp

end Cert.Proof

end
-- ==== Proof.Tokens.lean ====
/-
  The rows of the whole problem: token `n` of the 32768 is token `n % 8192` of batch entry `n / 8192`, and its row of
  logits is the inner products of its vector with the 64 experts' weights. Here are the results the claim names, as real
  numbers of the two arguments, and the two ways the sum over the tokens is cut.
-/
module

public import proofs.«01_k».proof.Proof.Rows
public import Idealize.ShloMosaic.Lib.Pointwise

@[expose] public section

noncomputable section

namespace Cert.Proof

open Idealize.ShloMosaic

/-- Every entry is a real number. -/
def AllReal {s : Shape} (x : s.Idx → EReal) : Prop := ∀ i, x i = ((x i).toReal : EReal)

variable (x : (⟨3, ![4, 8192, 768]⟩ : Shape).Idx → EReal) (w : (⟨2, ![64, 768]⟩ : Shape).Idx → EReal)

/-- The real logits of token `s` of batch entry `b`. -/
def row (b : Fin 4) (s : Fin 8192) (e : Fin 64) : ℝ := ∑ k : Fin 768, (x (ix3 b s k)).toReal * (w (ix2 e k)).toReal

variable {x w} in
/-- The inner products over the extended reals are the real logits, the arguments being real. -/
theorem logit_eq_row (hx : AllReal x) (hw : AllReal w) (b : Fin 4) (s : Fin 8192) (e : Fin 64) :
    ∑ k : Fin 768, x (ix3 b s k) * w (ix2 e k) = ((row x w b s e : ℝ) : EReal) := by
  rw [row, ← sum_coe]
  refine Finset.sum_congr rfl fun k _ => ?_
  rw [EReal.coe_mul, ← hx, ← hw]

/-- The first and the second expert of a token. -/
def picks (b : Fin 4) (s : Fin 8192) : Fin 64 × Fin 64 := top2 (row x w b s)

theorem isTop2_picks (b : Fin 4) (s : Fin 8192) : IsTop2 (row x w b s) (picks x w b s).1 (picks x w b s).2 :=
  isTop2_top2 _

/-- The expert a token picks first (`k = 0`) or second. -/
def pick (b : Fin 4) (s : Fin 8192) (k : Fin 2) : Fin 64 := if k = 0 then (picks x w b s).1 else (picks x w b s).2

/-- Its weight: the share of its probability in the two picked. -/
def weight (b : Fin 4) (s : Fin 8192) (k : Fin 2) : ℝ :=
  if k = 0 then 1 / (1 + ratio (row x w b s) (picks x w b s).1 (picks x w b s).2)
  else ratio (row x w b s) (picks x w b s).1 (picks x w b s).2
    * (1 / (1 + ratio (row x w b s) (picks x w b s).1 (picks x w b s).2))

/-- The probability a token gives an expert. -/
def tokenProb (e : Fin 64) (b : Fin 4) (s : Fin 8192) : ℝ := prob (row x w b s) (picks x w b s).1 e

/-- One if the token picks the expert, else zero. -/
def tokenHit (e : Fin 64) (b : Fin 4) (s : Fin 8192) : ℝ :=
  if e = (picks x w b s).1 ∨ e = (picks x w b s).2 then 1 else 0

/-- The sum over the tokens. -/
def total (f : Fin 4 → Fin 8192 → ℝ) : ℝ := ∑ b, ∑ s, f b s

/-- The aux loss. -/
def aux : ℝ := ∑ e, 64 * (total (tokenProb x w e) / 32768) * (total (tokenHit x w e) / 65536)

/-! ## The three results -/

/-- Result 1: the expert numbers. -/
def indexOut : (⟨3, ![4, 8192, 2]⟩ : Shape).Idx → BitVec 32 := fun y => BitVec.ofNat 32 (pick x w (y 0) (y 1) (y 2)).val

/-- Result 2: the weights. -/
def weightOut : (⟨3, ![4, 8192, 2]⟩ : Shape).Idx → EReal := fun y => ((weight x w (y 0) (y 1) (y 2) : ℝ) : EReal)

/-- Result 3: the aux loss. -/
def auxOut : (⟨0, ![]⟩ : Shape).Idx → EReal := fun _ => ((aux x w : ℝ) : EReal)

/-! ## The sum over the tokens, cut two ways -/

/-- The batch entry and the position of token `n`. -/
def batchOf (n : Fin 32768) : Fin 4 := ⟨n.val / 8192, by omega⟩
def posOf (n : Fin 32768) : Fin 8192 := ⟨n.val % 8192, by omega⟩

/-- Token `j` of the block of grid point `t`. -/
def tokenOf (t : Fin 8) (j : Fin 4096) : Fin 32768 := ⟨t.val * 4096 + j.val, by omega⟩

theorem sum_batches (f : Fin 4 → Fin 8192 → ℝ) : total f = ∑ n : Fin 32768, f (batchOf n) (posOf n) := by
  rw [total, ← Fintype.sum_prod_type' f]
  refine (Fintype.sum_equiv (finProdFinEquiv (m := 4) (n := 8192)) _ (fun n : Fin 32768 => f (batchOf n) (posOf n)) ?_)
  rintro ⟨b, s⟩
  have hv : (finProdFinEquiv (m := 4) (n := 8192) (b, s)).val = s.val + 8192 * b.val := finProdFinEquiv_apply_val _
  have hb : batchOf (finProdFinEquiv (m := 4) (n := 8192) (b, s)) = b := Fin.ext (by
    show (finProdFinEquiv (m := 4) (n := 8192) (b, s)).val / 8192 = b.val
    omega)
  have hs : posOf (finProdFinEquiv (m := 4) (n := 8192) (b, s)) = s := Fin.ext (by
    show (finProdFinEquiv (m := 4) (n := 8192) (b, s)).val % 8192 = s.val
    omega)
  rw [hb, hs]

theorem sum_blocks (f : Fin 32768 → ℝ) : ∑ n, f n = ∑ t : Fin 8, ∑ j : Fin 4096, f (tokenOf t j) := by
  rw [← Fintype.sum_prod_type' fun t j => f (tokenOf t j)]
  refine (Fintype.sum_equiv (finProdFinEquiv (m := 8) (n := 4096)) _ f ?_).symm
  rintro ⟨t, j⟩
  congr 1
  have hv : (finProdFinEquiv (m := 8) (n := 4096) (t, j)).val = j.val + 4096 * t.val := finProdFinEquiv_apply_val _
  exact Fin.ext (by
    show t.val * 4096 + j.val = (finProdFinEquiv (m := 8) (n := 4096) (t, j)).val
    omega)

/-- The sum over the tokens, block by block. -/
theorem total_eq_blocks (f : Fin 4 → Fin 8192 → ℝ) :
    total f = ∑ t : Fin 8, ∑ j : Fin 4096, f (batchOf (tokenOf t j)) (posOf (tokenOf t j)) := by
  rw [sum_batches, sum_blocks fun n => f (batchOf n) (posOf n)]

end Cert.Proof

end
-- ==== Proof.Finite.lean ====
/-
  The precondition gives arguments whose entries are all real numbers.
-/
module

public import proofs.«01_k».proof.Defs
public import proofs.«01_k».proof.Proof.Tokens
public import proofs.«01_k».proof.Proof.Gen.Pre_finite
public import Idealize.ShloMosaic.Lib.ReduceAll

@[expose] public section

set_option maxRecDepth 16384

noncomputable section

namespace Cert.Proof

open Idealize.ShloMosaic Idealize.ShloMosaic.TcCoe Idealize.SL.Sem Cert.Pre_finite Cert.Pre_finite.Facts

theorem plus_infinity : Ideal.ofBits FTy.f32 2139095040#32 = ⊤ := by simp [Ideal.ofBits, Ideal.ieee]

/-- A value whose absolute value compares below `⊤` is a real number. -/
theorem real_of_abs_lt {a : EReal} (h : Ideal.cmp .olt (max a (-a)) ⊤ = 1#1) : a = (a.toReal : EReal) := by
  have hlt : max a (-a) < ⊤ := by
    by_contra hn
    have h' : BitVec.ofBool (decide (max a (-a) < ⊤)) = 1#1 := h
    rw [decide_eq_false hn] at h'
    exact absurd h' (by decide)
  have htop : a ≠ ⊤ := fun he => absurd (lt_of_le_of_lt (le_max_left a (-a)) hlt) (by rw [he]; exact lt_irrefl _)
  have hbot : a ≠ ⊥ := fun he => absurd (lt_of_le_of_lt (le_max_right a (-a)) hlt) (by rw [he, EReal.neg_bot]; exact lt_irrefl _)
  exact (EReal.coe_toReal htop hbot).symm

/-- Under the precondition both arguments are real everywhere. -/
theorem allReal_of_pre {x : FVec Ideal S4x8192x768 .f32} {w : FVec Ideal S64x768 .f32}
    (h : Cert.Pre_finite.fn (F := Ideal) x w = fun _ => 1#1) : AllReal x ∧ AllReal w := by
  have : Subsingleton S_.Idx := ⟨fun a b => funext fun i => i.elim0⟩
  obtain ⟨h1, h2⟩ := IntOp.andi_eq_one.1 (congrFun h ix0)
  refine ⟨fun i => real_of_abs_lt ?_, fun i => real_of_abs_lt ?_⟩
  · have hi := Host.reduce_andi_all _ _ _ _ _ h1 i
    rw [← plus_infinity]
    exact hi
  · have hi := Host.reduce_andi_all _ _ _ _ _ h2 i
    rw [← plus_infinity]
    exact hi

end Cert.Proof

end
-- ==== Proof.Block.lean ====
/-
  What one grid point computes from its block of tokens and the expert weights, once the logits of the block are known
  to be real: the two experts of each token, their weights, and the block's share of the two running sums. The aux loss
  is read from the two sums it is given.
-/
module

public import proofs.«01_k».proof.Proof.Gen.KernelIdeal.Skeleton
public import proofs.«01_k».proof.Proof.Rows
public import Idealize.ShloMosaic.Lib.Pointwise

@[expose] public section

set_option maxRecDepth 16384

noncomputable section

namespace Cert.Proof

open Idealize.ShloMosaic Idealize.ShloMosaic.TcCoe Idealize.SL.Sem Cert.KernelIdeal Cert.KernelIdeal.Gen

/-- The pattern of minus infinity is the least extended real. -/
theorem ofBits_neg_inf : Ideal.ofBits FTy.f32 4286578688#32 = ⊥ := by simp [Ideal.ofBits, Ideal.ieee]

/-- Comparing two experts' numbers as words is comparing the experts. -/
theorem cmpi_eq_fin (e e' : Fin 64) :
    IntOp.cmpi .eq (BitVec.ofNat 32 e.val) (BitVec.ofNat 32 e'.val) = if e = e' then 1#1 else 0#1 := by
  show BitVec.ofBool (BitVec.ofNat 32 e.val == BitVec.ofNat 32 e'.val) = _
  by_cases h : e = e'
  · rw [if_pos h, h, beq_self_eq_true]; rfl
  · rw [if_neg h, beq_false_of_ne (fun he => h ((ofNat_fin_inj e e').mp he))]; rfl

/-- The union of two masks, widened, counts one where either holds. -/
theorem toInt_or_mask (p q : Prop) [Decidable p] [Decidable q] :
    (BitVec.setWidth 32 (IntOp.ori (if p then 1#1 else 0#1) (if q then 1#1 else 0#1))).toInt = if p ∨ q then 1 else 0 := by
  by_cases hp : p <;> by_cases hq : q <;> simp only [hp, hq, if_true, if_false, or_self, or_true, true_or] <;> decide

variable (v0 : Vec Ideal S1x4096x768 .f32) (v2 : Vec Ideal S64x768 .f32)

/-- A logit of the block: the inner product of the expert's weights with the token. -/
theorem logit_block (e : Fin 64) (j : Fin 4096) :
    k0_pay8 (F := Ideal) v0 v2 (ix2 e j) = ∑ k, v2 (ix2 e k) * v0 (ix3 0 j k) := by
  pointwise [Gen.k0_pay8]

variable {v0 v2} {z : Fin 4096 → Fin 64 → ℝ} {a b : Fin 4096 → Fin 64}
  (hz : ∀ e j, k0_pay8 (F := Ideal) v0 v2 (ix2 e j) = ((z j e : ℝ) : EReal)) (ht : ∀ j, IsTop2 (z j) (a j) (b j))

include hz ht

/-- The column maximum is the logit of the first expert. -/
theorem max_block (j : Fin 4096) : k0_pay9 (F := Ideal) v0 v2 (ix2 0 j) = ((z j (a j) : ℝ) : EReal) := by
  pointwise [Gen.k0_pay9]
  rw [ofBits_neg_inf]
  simp only [hz]
  exact fold_max_eq (fun e => EReal.coe_le_coe_iff.mpr ((ht j).le_a e)) ⟨a j, rfl⟩

/-- The first expert's number. -/
theorem first_block (j : Fin 4096) : k0_pay10 (F := Ideal) v0 v2 (ix2 0 j) = BitVec.ofNat 32 (a j).val := by
  pointwise [Gen.k0_pay10]
  simp only [hz, max_block hz ht]
  exact fold_minsi_first _ (a j) rfl fun e he => (ht j).first_a e (EReal.coe_injective he)

/-- The mask of the first expert. -/
theorem mask_block (e : Fin 64) (j : Fin 4096) :
    k0_pay11 (F := Ideal) v0 v2 (ix2 e j) = if e = a j then 1#1 else 0#1 := by
  pointwise [Gen.k0_pay11]
  rw [first_block hz ht, cmpi_eq_fin]

/-- The logits with the first expert's put at minus infinity. -/
theorem rest_block (e : Fin 64) (j : Fin 4096) :
    k0_pay12 (F := Ideal) v0 v2 (ix2 e j) = if e = a j then ⊥ else ((z j e : ℝ) : EReal) := by
  pointwise [Gen.k0_pay12]
  rw [ofBits_neg_inf, mask_block hz ht, hz]
  by_cases h : e = a j <;> simp [Scalar.select, h]

/-- Their column maximum is the logit of the second expert. -/
theorem max_rest_block (j : Fin 4096) : k0_pay13 (F := Ideal) v0 v2 (ix2 0 j) = ((z j (b j) : ℝ) : EReal) := by
  pointwise [Gen.k0_pay13]
  rw [ofBits_neg_inf]
  simp only [rest_block hz ht]
  refine fold_max_eq (fun e => ?_) ⟨b j, if_neg (ht j).ne⟩
  split
  · exact bot_le
  · rename_i h
    exact EReal.coe_le_coe_iff.mpr ((ht j).le_b e h)

/-- The second expert's number. -/
theorem second_block (j : Fin 4096) : k0_pay14 (F := Ideal) v0 v2 (ix2 0 j) = BitVec.ofNat 32 (b j).val := by
  pointwise [Gen.k0_pay14]
  simp only [rest_block hz ht, max_rest_block hz ht]
  refine fold_minsi_first _ (b j) (if_neg (ht j).ne) fun e he => ?_
  by_cases h : e = a j
  · rw [if_pos h] at he
    exact absurd he (EReal.bot_ne_coe _)
  · rw [if_neg h] at he
    exact (ht j).first_b e h (EReal.coe_injective he)

/-- The stored pair of expert numbers. -/
theorem index_block (r : Fin 2) (j : Fin 4096) :
    k0_pay15 (F := Ideal) v0 v2 (ix2 r j) = BitVec.ofNat 32 (if r = 0 then a j else b j).val := by
  fin_cases r
  · show k0_pay15 (F := Ideal) v0 v2 (ix2 0 j) = BitVec.ofNat 32 (a j).val
    pointwise [Gen.k0_pay15]
    exact first_block hz ht j
  · show k0_pay15 (F := Ideal) v0 v2 (ix2 1 j) = BitVec.ofNat 32 (b j).val
    pointwise [Gen.k0_pay15]
    exact second_block hz ht j

/-- The stored pair of weights. -/
theorem weight_block (r : Fin 2) (j : Fin 4096) :
    k0_pay16 (F := Ideal) v0 v2 (ix2 r j) = ((if r = 0 then 1 / (1 + ratio (z j) (a j) (b j))
      else ratio (z j) (a j) (b j) * (1 / (1 + ratio (z j) (a j) (b j))) : ℝ) : EReal) := by
  have hne : (1 + ratio (z j) (a j) (b j)) ≠ 0 := (add_pos one_pos (Real.exp_pos _)).ne'
  have hd : Ideal.div 1 (1 + ((ratio (z j) (a j) (b j) : ℝ) : EReal)) = ((1 / (1 + ratio (z j) (a j) (b j)) : ℝ) : EReal) := by
    rw [← EReal.coe_one, ← EReal.coe_add, div_coe_coe _ hne]
  fin_cases r
  · show k0_pay16 (F := Ideal) v0 v2 (ix2 0 j) = ((1 / (1 + ratio (z j) (a j) (b j)) : ℝ) : EReal)
    pointwise [Gen.k0_pay16]
    rw [max_block hz ht, max_rest_block hz ht, exp_sub_coe]
    exact hd
  · show k0_pay16 (F := Ideal) v0 v2 (ix2 1 j)
      = ((ratio (z j) (a j) (b j) * (1 / (1 + ratio (z j) (a j) (b j))) : ℝ) : EReal)
    pointwise [Gen.k0_pay16]
    rw [max_block hz ht, max_rest_block hz ht, exp_sub_coe, EReal.coe_mul, ← hd]
    rfl

/-- The block's share of the sum of probabilities. -/
theorem importance_block (e : Fin 64) :
    k0_pay1 (F := Ideal) (k0_pay8 v0 v2) (k0_pay17 v0 v2) (ix2 e 0) = ∑ j, ((prob (z j) (a j) e : ℝ) : EReal) := by
  have h17 : ∀ e j, k0_pay17 (F := Ideal) v0 v2 (ix2 e j) = ((z j (a j) : ℝ) : EReal) := fun e j => by
    pointwise [Gen.k0_pay17]
    exact max_block hz ht j
  pointwise [Gen.k0_pay1]
  refine Finset.sum_congr rfl fun j _ => ?_
  simp only [hz, h17, exp_sub_coe, sum_coe]
  rw [← EReal.coe_one, ← den, div_coe_coe _ (den_pos _ _).ne', ← EReal.coe_mul, mul_one_div, prob]

/-- The block's share of the count of tokens that chose an expert. -/
theorem load_block (e : Fin 64) :
    k0_pay2 (F := Ideal) (iota .tc S64x4096 32 [0] iota_S64x4096_d0_w32) (k0_pay11 v0 v2) (k0_pay14 v0 v2) (ix2 e 0)
      = ∑ j, (((if e = a j ∨ e = b j then 1 else 0 : ℝ)) : EReal) := by
  pointwise [Gen.k0_pay2]
  refine Finset.sum_congr rfl fun j _ => ?_
  rw [mask_block hz ht, second_block hz ht, cmpi_eq_fin]
  show (((BitVec.setWidth 32 (IntOp.ori (if e = a j then 1#1 else 0#1) (if e = b j then 1#1 else 0#1))).toInt : ℝ) : EReal) = _
  rw [toInt_or_mask]
  by_cases h : e = a j ∨ e = b j
  · rw [if_pos h, if_pos h]; norm_num
  · rw [if_neg h, if_neg h]; norm_num

omit hz ht

/-- The aux loss from real sums of probabilities and of choices. -/
theorem aux_block (p q : FVec Ideal S64x1 .f32) (P Q : Fin 64 → ℝ) (hp : ∀ e, p (ix2 e 0) = ((P e : ℝ) : EReal))
    (hq : ∀ e, q (ix2 e 0) = ((Q e : ℝ) : EReal)) (y : S1x1.Idx) :
    k0_pay7 (F := Ideal) p q y = ((∑ e, 64 * (P e / 32768) * (Q e / 65536) : ℝ) : EReal) := by
  idx_vars y
  pointwise [Gen.k0_pay7]
  have h64 : Ideal.ofBits FTy.f32 1115684864#32 = ((64 : ℝ) : EReal) := by simp [Ideal.ofBits, Ideal.ieee]; rw [← EReal.coe_mul]; norm_num
  have hN : Ideal.ofBits FTy.f32 1191182336#32 = ((32768 : ℝ) : EReal) := by simp [Ideal.ofBits, Ideal.ieee]; rw [← EReal.coe_mul]; norm_num
  have h2 : Ideal.ofBits FTy.f32 1073741824#32 = ((2 : ℝ) : EReal) := by simp [Ideal.ofBits, Ideal.ieee]; rw [← EReal.coe_mul]; norm_num
  rw [h64, hN, h2, ← EReal.coe_mul, show (32768 * 2 : ℝ) = 65536 by norm_num, ← sum_coe]
  refine Finset.sum_congr rfl fun e _ => ?_
  rw [Fin.sum_univ_one, hp, hq, div_coe_coe _ (by norm_num), div_coe_coe _ (by norm_num), ← EReal.coe_mul, ← EReal.coe_mul]

end Cert.Proof

end
-- ==== Proof.Points.lean ====
/-
  What each grid point leaves in the output blocks and in the two running sums, as the kernel's own expressions over the
  point's blocks; and what the blocks hold of the argument arrays.
-/
module

public import proofs.«01_k».proof.Proof.Gen.KernelIdeal.Frame
public import proofs.«01_k».proof.Proof.Block
public import proofs.«01_k».proof.Proof.Tokens
public import Idealize.ShloMosaic.Lib.Pipeline.ValueKit
public import Idealize.ShloMosaic.Lib.Pipeline.ReadBack

@[expose] public section

set_option maxRecDepth 16384

noncomputable section

namespace Cert.Proof

open Idealize.ShloMosaic Idealize.ShloMosaic.TcCoe Idealize.SL.Sem Cert.KernelIdeal Cert.KernelIdeal.Gen

variable (m : (ℓ : Loc nD τ sig) → Buf (Elt Ideal) ℓ) (c : Dev nD)

/-! ## The outputs of a point -/

/-- Every point stores the pair of expert numbers of its block. -/
theorem out_index (t : Fin cfg0.N) : (outsAt0 m c t.val t.isLt).1 = k0_pay15 (iblk m c 0 t) (iblk m c 1 t) := by
  have ht : t.val < 8 := lt_of_lt_of_eq t.isLt Gen.N_0
  by_cases h0 : t.val = 0
  · rw [outsAt0_A m c t (by omega) (by omega) (by omega)]
    frame_out
  · by_cases h7 : t.val = 7
    · rw [outsAt0_C m c t (by omega) (by omega) (by omega)]
      frame_out
    · rw [outsAt0_B m c t (by omega) (by omega) (by omega)]
      frame_out

/-- Every point stores the pair of weights of its block. -/
theorem out_weight (t : Fin cfg0.N) : (outsAt0 m c t.val t.isLt).2.1 = k0_pay16 (iblk m c 0 t) (iblk m c 1 t) := by
  have ht : t.val < 8 := lt_of_lt_of_eq t.isLt Gen.N_0
  by_cases h0 : t.val = 0
  · rw [outsAt0_A m c t (by omega) (by omega) (by omega)]
    frame_out
  · by_cases h7 : t.val = 7
    · rw [outsAt0_C m c t (by omega) (by omega) (by omega)]
      frame_out
    · rw [outsAt0_B m c t (by omega) (by omega) (by omega)]
      frame_out

/-- A point's share of the sum of probabilities. -/
def impTerm (t : Fin cfg0.N) : S64x1.Idx → EReal :=
  k0_pay1 (F := Ideal) (k0_pay8 (iblk m c 0 t) (iblk m c 1 t)) (k0_pay17 (iblk m c 0 t) (iblk m c 1 t))

/-- A point's share of the count of choices. -/
def loadTerm (t : Fin cfg0.N) : S64x1.Idx → EReal :=
  k0_pay2 (F := Ideal) (iota .tc S64x4096 32 [0] iota_S64x4096_d0_w32) (k0_pay11 (iblk m c 0 t) (iblk m c 1 t))
    (k0_pay14 (iblk m c 0 t) (iblk m c 1 t))

theorem imp_first (t : Fin cfg0.N) (h : t.val % 8 = 0) (y : S64x1.Idx) :
    (outsAt0 m c t.val t.isLt).2.2.2.1 y = 0 + impTerm m c t y := by
  have ht : t.val < 8 := lt_of_lt_of_eq t.isLt Gen.N_0
  rw [outsAt0_A m c t (by omega) (by omega) (by omega), zero_add, impTerm]
  frame_out
  idx_vars y
  pointwise [Gen.k0_pay3]

theorem load_first (t : Fin cfg0.N) (h : t.val % 8 = 0) (y : S64x1.Idx) :
    (outsAt0 m c t.val t.isLt).2.2.2.2 y = 0 + loadTerm m c t y := by
  have ht : t.val < 8 := lt_of_lt_of_eq t.isLt Gen.N_0
  rw [outsAt0_A m c t (by omega) (by omega) (by omega), zero_add, loadTerm]
  frame_out
  idx_vars y
  pointwise [Gen.k0_pay4]

theorem imp_step (t : Fin cfg0.N) (h : ¬t.val % 8 = 0) (y : S64x1.Idx) :
    (outsAt0 m c t.val t.isLt).2.2.2.1 y
      = (outsAt0 m c (t.val - 1) (Nat.lt_of_le_of_lt (Nat.sub_le _ _) t.isLt)).2.2.2.1 y + impTerm m c t y := by
  have ht : t.val < 8 := lt_of_lt_of_eq t.isLt Gen.N_0
  rw [impTerm]
  by_cases h7 : t.val = 7
  · rw [outsAt0_C m c t (by omega) (by omega) (by omega)]
    frame_out
    simp only [read_unread_whole]
    idx_vars y
    pointwise [Gen.k0_pay5]
  · rw [outsAt0_B m c t (by omega) (by omega) (by omega)]
    frame_out
    simp only [read_unread_whole]
    idx_vars y
    pointwise [Gen.k0_pay5]

theorem load_step (t : Fin cfg0.N) (h : ¬t.val % 8 = 0) (y : S64x1.Idx) :
    (outsAt0 m c t.val t.isLt).2.2.2.2 y
      = (outsAt0 m c (t.val - 1) (Nat.lt_of_le_of_lt (Nat.sub_le _ _) t.isLt)).2.2.2.2 y + loadTerm m c t y := by
  have ht : t.val < 8 := lt_of_lt_of_eq t.isLt Gen.N_0
  rw [loadTerm]
  by_cases h7 : t.val = 7
  · rw [outsAt0_C m c t (by omega) (by omega) (by omega)]
    frame_out
    simp only [read_unread_whole]
    idx_vars y
    pointwise [Gen.k0_pay6]
  · rw [outsAt0_B m c t (by omega) (by omega) (by omega)]
    frame_out
    simp only [read_unread_whole]
    idx_vars y
    pointwise [Gen.k0_pay6]

/-- The last point stores the aux loss of the two running sums as it leaves them. -/
theorem out_aux : (outsAt0 m c t0_7.val t0_7.isLt).2.2.1
    = k0_pay7 (outsAt0 m c t0_7.val t0_7.isLt).2.2.2.1 (outsAt0 m c t0_7.val t0_7.isLt).2.2.2.2 := by
  rw [outsAt0_C m c t0_7 (by decide) (by decide) (by decide)]
  frame_out

/-- The running sum of probabilities at the end. -/
theorem imp_last (y : S64x1.Idx) : (outsAt0 m c t0_7.val t0_7.isLt).2.2.2.1 y = 0 + ∑ t : Fin cfg0.N, impTerm m c t y :=
  Pipeline.eq_sum_fin_of_reset_step_apply_last (fun n h => (outsAt0 m c n h).2.2.2.1) 8 (fun _ => 0) (impTerm m c)
    (imp_first m c) (imp_step m c) (by decide) t0_7 rfl y

/-- The running count of choices at the end. -/
theorem load_last (y : S64x1.Idx) : (outsAt0 m c t0_7.val t0_7.isLt).2.2.2.2 y = 0 + ∑ t : Fin cfg0.N, loadTerm m c t y :=
  Pipeline.eq_sum_fin_of_reset_step_apply_last (fun n h => (outsAt0 m c n h).2.2.2.2) 8 (fun _ => 0) (loadTerm m c)
    (load_first m c) (load_step m c) (by decide) t0_7 rfl y

/-! ## The blocks -/

/-- Where each window's block of point `t` stands. -/
theorem idx : ∀ t : Fin cfg0.N, win0_0.index t = ![t.val / 2, t.val % 2, 0] ∧ win0_1.index t = ![0, 0]
    ∧ win0_2.index t = ![0, t.val] ∧ win0_3.index t = ![0, t.val] ∧ win0_4.index t = ![0, 0] :=
  (by decide +kernel : ∀ t : Fin grid0.N, win0_0.index t = ![t.val / 2, t.val % 2, 0] ∧ win0_1.index t = ![0, 0]
    ∧ win0_2.index t = ![0, t.val] ∧ win0_3.index t = ![0, t.val] ∧ win0_4.index t = ![0, 0])

/-- The argument arrays. -/
abbrev argX : S4x8192x768.Idx → EReal := m ((c.tc : Thread nD τ).loc main_arg0)
abbrev argW : S64x768.Idx → EReal := m ((c.tc : Thread nD τ).loc main_arg1)

/-- Point `t` as a number below 8. -/
def pt (t : Fin cfg0.N) : Fin 8 := ⟨t.val, lt_of_lt_of_eq t.isLt Gen.N_0⟩

theorem block_tokens (t : Fin cfg0.N) (j : Fin 4096) (k : Fin 768) :
    iblk m c 0 t (ix3 0 j k) = argX m c (ix3 (batchOf (tokenOf (pt t) j)) (posOf (tokenOf (pt t) j)) k) := by
  have ht : t.val < 8 := lt_of_lt_of_eq t.isLt Gen.N_0
  blk_ext [iblk, V, idx t]
  · show t.val / 2 + 0 = (t.val * 4096 + j.val) / 8192
    omega
  · show t.val % 2 * 4096 + j.val = (t.val * 4096 + j.val) % 8192
    omega

theorem block_weights (t : Fin cfg0.N) (e : Fin 64) (k : Fin 768) : iblk m c 1 t (ix2 e k) = argW m c (ix2 e k) := by
  blk_ext [iblk, V, idx t]

/-! ## The logits of a block -/

variable {m c} (hx : AllReal (argX m c)) (hw : AllReal (argW m c))

include hx hw in
/-- The logits of a point's block are the real logits of its tokens. -/
theorem logits_real (t : Fin cfg0.N) (e : Fin 64) (j : Fin 4096) :
    k0_pay8 (F := Ideal) (iblk m c 0 t) (iblk m c 1 t) (ix2 e j)
      = ((row (argX m c) (argW m c) (batchOf (tokenOf (pt t) j)) (posOf (tokenOf (pt t) j)) e : ℝ) : EReal) := by
  rw [logit_block, ← logit_eq_row hx hw]
  refine Finset.sum_congr rfl fun k _ => ?_
  rw [block_tokens, block_weights, mul_comm]

end Cert.Proof

end
-- ==== Proof.Arrays.lean ====
/-
  What the three output arrays hold after the grid has run: expert numbers and weights of every token, column by
  column, and the aux loss.
-/
module

public import proofs.«01_k».proof.Proof.Points

@[expose] public section

set_option maxRecDepth 16384

noncomputable section

namespace Cert.Proof

open Idealize.ShloMosaic Idealize.ShloMosaic.TcCoe Idealize.SL.Sem Cert.KernelIdeal Cert.KernelIdeal.Gen

variable {m : (ℓ : Loc nD τ sig) → Buf (Elt Ideal) ℓ} {c : Dev nD}
  (hx : AllReal (argX m c)) (hw : AllReal (argW m c))

variable (m c) in
/-- The expert numbers, two rows of 32768 tokens. -/
def indexArr : S2x32768.Idx → BitVec 32 := fun y =>
  BitVec.ofNat 32 (pick (argX m c) (argW m c) (batchOf (y 1)) (posOf (y 1)) (y 0)).val

variable (m c) in
/-- The weights, two rows of 32768 tokens. -/
def weightArr : S2x32768.Idx → EReal := fun y =>
  ((weight (argX m c) (argW m c) (batchOf (y 1)) (posOf (y 1)) (y 0) : ℝ) : EReal)

include hx hw

theorem index_arr : (dats m 0 c).arrAt 2 (cfgs 0).N = indexArr m c := by
  refine (dats m 0 c).arrAt_eq_of_covers 2 _ (by decide +kernel) fun t hf y => ?_
  blk_simp
  rw [after0_2, out_index]
  have ht : t.val < 8 := lt_of_lt_of_eq t.isLt Gen.N_0
  idx_vars y
  rw [index_block (logits_real hx hw t) (fun j => isTop2_picks _ _ _ _), indexArr]
  have h1 : (win0_2.blk t).view.emb (ix2 y0 y1) 1 = tokenOf (pt t) y1 := Fin.ext (by
    blk_simp [idx t]
    rfl)
  have h0 : (win0_2.blk t).view.emb (ix2 y0 y1) 0 = y0 := Fin.ext (by
    blk_simp [idx t])
  rw [h0, h1]
  rfl

theorem weight_arr : (dats m 0 c).arrAt 3 (cfgs 0).N = weightArr m c := by
  refine (dats m 0 c).arrAt_eq_of_covers 3 _ (by decide +kernel) fun t hf y => ?_
  blk_simp
  rw [after0_3, out_weight]
  have ht : t.val < 8 := lt_of_lt_of_eq t.isLt Gen.N_0
  idx_vars y
  rw [weight_block (logits_real hx hw t) (fun j => isTop2_picks _ _ _ _), weightArr]
  have h1 : (win0_3.blk t).view.emb (ix2 y0 y1) 1 = tokenOf (pt t) y1 := Fin.ext (by
    blk_simp [idx t]
    rfl)
  have h0 : (win0_3.blk t).view.emb (ix2 y0 y1) 0 = y0 := Fin.ext (by
    blk_simp [idx t])
  rw [h0, h1]
  rfl

/-- The sum of probabilities over all tokens. -/
theorem imp_total (e : Fin 64) :
    (outsAt0 m c t0_7.val t0_7.isLt).2.2.2.1 (ix2 e 0) = ((total (tokenProb (argX m c) (argW m c) e) : ℝ) : EReal) := by
  have h : ∀ t : Fin cfg0.N, impTerm m c t (ix2 e 0) = ((∑ j : Fin 4096, tokenProb (argX m c) (argW m c) e
      (batchOf (tokenOf (pt t) j)) (posOf (tokenOf (pt t) j)) : ℝ) : EReal) := fun t => by
    rw [impTerm, importance_block (logits_real hx hw t) (fun j => isTop2_picks _ _ _ _), sum_coe]
    rfl
  rw [imp_last, zero_add, total_eq_blocks]
  simp only [h]
  rw [sum_coe]
  rfl

/-- The count of choices over all tokens. -/
theorem load_total (e : Fin 64) :
    (outsAt0 m c t0_7.val t0_7.isLt).2.2.2.2 (ix2 e 0) = ((total (tokenHit (argX m c) (argW m c) e) : ℝ) : EReal) := by
  have h : ∀ t : Fin cfg0.N, loadTerm m c t (ix2 e 0) = ((∑ j : Fin 4096, tokenHit (argX m c) (argW m c) e
      (batchOf (tokenOf (pt t) j)) (posOf (tokenOf (pt t) j)) : ℝ) : EReal) := fun t => by
    rw [loadTerm, load_block (logits_real hx hw t) (fun j => isTop2_picks _ _ _ _), sum_coe]
    rfl
  rw [load_last, zero_add, total_eq_blocks]
  simp only [h]
  rw [sum_coe]
  rfl

theorem aux_arr : (dats m 0 c).arrAt 4 (cfgs 0).N = fun _ => ((aux (argX m c) (argW m c) : ℝ) : EReal) := by
  refine (dats m 0 c).arrAt_eq_of_after_last 4 t0_7 (by decide +kernel) _ fun j => ?_
  blk_simp
  rw [after0_4, out_aux, aux_block _ _ _ _ (imp_total hx hw) (load_total hx hw)]
  rfl

end Cert.Proof

end
-- ==== Proof.KernelRun.lean ====
/-
  The run of the kernel with the host operations after it: the three results it ends at, on real arguments.
-/
module

public import proofs.«01_k».proof.Proof.Arrays

@[expose] public section

set_option maxRecDepth 16384

noncomputable section

namespace Cert.Proof

open Idealize.ShloMosaic Idealize.ShloMosaic.TcCoe Idealize.SL.Sem Cert.KernelIdeal Cert.KernelIdeal.Gen

/-! ## The host operations after the kernel -/

section Tail

variable (X : Valuation τ sig (Elt Ideal))

/-- The two rows of 32768 are reread as 4 by 8192, the pair moved last. -/
theorem tail_index (b : Fin 4) (s : Fin 8192) (k : Fin 2) :
    (StableHlo.after hostOps1 X (Proc.devRef .tc main_v2) : S4x8192x2.Idx → BitVec 32) (ix3 b s k)
      = (X (Proc.devRef .tc main_v0_0) : S2x32768.Idx → BitVec 32) (ix2 k ⟨b.val * 8192 + s.val, by omega⟩) := by
  unfold hostOps1
  after_results
  pointwise []

theorem tail_weight (b : Fin 4) (s : Fin 8192) (k : Fin 2) :
    (StableHlo.after hostOps1 X (Proc.devRef .tc main_v4) : S4x8192x2.Idx → EReal) (ix3 b s k)
      = (X (Proc.devRef .tc main_v0_1) : S2x32768.Idx → EReal) (ix2 k ⟨b.val * 8192 + s.val, by omega⟩) := by
  unfold hostOps1
  after_results
  pointwise []

theorem tail_aux (y : S_.Idx) :
    (StableHlo.after hostOps1 X (Proc.devRef .tc main_v5) : S_.Idx → EReal) y
      = (X (Proc.devRef .tc main_v0_2) : S1x1.Idx → EReal) (ix2 0 0) := by
  unfold hostOps1
  after_results
  pointwise []

end Tail

/-! ## The results -/

variable {m : (ℓ : Loc nD τ sig) → Buf (Elt Ideal) ℓ} {c : Dev nD}
  (hx : AllReal (argX m c)) (hw : AllReal (argW m c))

theorem batchOf_flat (b : Fin 4) (s : Fin 8192) (h : b.val * 8192 + s.val < 32768) :
    batchOf ⟨b.val * 8192 + s.val, h⟩ = b := Fin.ext (by
  show (b.val * 8192 + s.val) / 8192 = b.val
  omega)

theorem posOf_flat (b : Fin 4) (s : Fin 8192) (h : b.val * 8192 + s.val < 32768) :
    posOf ⟨b.val * 8192 + s.val, h⟩ = s := Fin.ext (by
  show (b.val * 8192 + s.val) % 8192 = s.val
  omega)

include hx hw

theorem after_index : Pipeline.afterTail₀ cfgs (dats m) 0 (V0 m) [hostOps1] c main_v2 = indexOut (argX m c) (argW m c) := by
  funext y
  idx_vars y
  refine (tail_index _ y0 y1 y2).trans ?_
  rw [show Pipeline.withArrays (cfgs 0).spec c (V0 m c) (fun w => (dats m 0 c).arrAt w (cfgs 0).N)
      (Proc.devRef .tc main_v0_0) = indexArr m c from
    (Pipeline.withArrays_arr (cfgs 0).spec (by decide) c _ _ 2).trans (index_arr hx hw)]
  show BitVec.ofNat 32 (pick (argX m c) (argW m c) (batchOf ⟨y0.val * 8192 + y1.val, _⟩) (posOf ⟨y0.val * 8192 + y1.val, _⟩) y2).val
    = BitVec.ofNat 32 (pick (argX m c) (argW m c) y0 y1 y2).val
  rw [batchOf_flat, posOf_flat]

theorem after_weight : Pipeline.afterTail₀ cfgs (dats m) 0 (V0 m) [hostOps1] c main_v4 = weightOut (argX m c) (argW m c) := by
  funext y
  idx_vars y
  refine (tail_weight _ y0 y1 y2).trans ?_
  rw [show Pipeline.withArrays (cfgs 0).spec c (V0 m c) (fun w => (dats m 0 c).arrAt w (cfgs 0).N)
      (Proc.devRef .tc main_v0_1) = weightArr m c from
    (Pipeline.withArrays_arr (cfgs 0).spec (by decide) c _ _ 3).trans (weight_arr hx hw)]
  show ((weight (argX m c) (argW m c) (batchOf ⟨y0.val * 8192 + y1.val, _⟩) (posOf ⟨y0.val * 8192 + y1.val, _⟩) y2 : ℝ) : EReal)
    = ((weight (argX m c) (argW m c) y0 y1 y2 : ℝ) : EReal)
  rw [batchOf_flat, posOf_flat]

theorem after_aux : Pipeline.afterTail₀ cfgs (dats m) 0 (V0 m) [hostOps1] c main_v5 = auxOut (argX m c) (argW m c) := by
  funext y
  refine (tail_aux _ y).trans ?_
  rw [show Pipeline.withArrays (cfgs 0).spec c (V0 m c) (fun w => (dats m 0 c).arrAt w (cfgs 0).N)
      (Proc.devRef .tc main_v0_2) = fun _ => ((aux (argX m c) (argW m c) : ℝ) : EReal) from
    (Pipeline.withArrays_arr (cfgs 0).spec (by decide) c _ _ 4).trans (aux_arr hx hw)]
  rfl

omit hx hw

/-- The kernel ends with the three results, its arguments as they were. -/
theorem kernel_run (m : (ℓ : Loc nD τ sig) → Buf (Elt Ideal) ℓ) (g : Dev nD → PrngReg)
    (hx : ∀ c, AllReal (argX m c)) (hw : ∀ c, AllReal (argW m c)) :
    θ_run (defs (F := Ideal)) (onTc (τ := τ) (main (F := Ideal))) ⟨m, fun _ => 0, g⟩ (fun r => ∀ c : Dev nD,
      r.2.mem ((c.tc : Thread nD τ).loc main_v2) = indexOut (argX m c) (argW m c)
      ∧ r.2.mem ((c.tc : Thread nD τ).loc main_v4) = weightOut (argX m c) (argW m c)
      ∧ r.2.mem ((c.tc : Thread nD τ).loc main_v5) = auxOut (argX m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (θ_run_and (run_main m g) (unchanged m g))
  have hr := (h.1 c).2
  exact ⟨(hr main_v2 (Pipeline.mem_restRefs_of _ rfl (by decide))).trans (after_index (hx c) (hw c)),
    (hr main_v4 (Pipeline.mem_restRefs_of _ rfl (by decide))).trans (after_weight (hx c) (hw c)),
    (hr main_v5 (Pipeline.mem_restRefs_of _ rfl (by decide))).trans (after_aux (hx c) (hw c)), (h.2 c).1, (h.2 c).2⟩

end Cert.Proof

end
-- ==== Proof.RefProbs.lean ====
/-
  The reference read at an index, on real arguments: its logits are the rows of Tokens.lean, its probabilities their softmax
  shifted by the largest entry, and its top-k of the probabilities is the top two of the row, the exponential and the
  division by a positive number being strictly increasing.
-/
module

public import proofs.«01_k».proof.Proof.Tokens
public import proofs.«01_k».proof.Proof.Gen.ReferenceIdeal
public import proofs.«01_k».proof.Proof.Gen.ReferenceIdeal.Run

@[expose] public section

set_option maxRecDepth 16384

noncomputable section

namespace Cert.Proof

open Idealize.ShloMosaic Cert.ReferenceIdeal Cert.ReferenceIdeal.Gen Cert.ReferenceIdeal.Facts

/-! ## The reference's values by name -/

section Values

variable (x : FVec Ideal S4x8192x768 .f32) (w : FVec Ideal S64x768 .f32)

def refLogits : FVec Ideal S4x8192x64 .f32 :=
  Host.dotGeneral dot_S4x8192x768_S64x768_S4x8192x64_2_1_01_0_n_n none x w

/-- The largest logit of each token. -/
def refMax : FVec Ideal S4x8192 .f32 :=
  maximumf (broadcastInDim S4x8192 ![] bcast_S_S4x8192 (constant S_ .f32 0xFF800000#32))
    (Host.reduce FloatOps.maximumf (refLogits x w) (constant S_ .f32 0xFF800000#32) reducesTo_S4x8192x64_S4x8192_d2 h_S_)

/-- A number per token, spread over the experts. -/
def spread (a : FVec Ideal S4x8192 .f32) : FVec Ideal S4x8192x64 .f32 :=
  broadcastInDim S4x8192x64 ![0, 1, 2] bcast_S4x8192x1_S4x8192x64_0_1_2
    (broadcastInDim S4x8192x1 ![0, 1] bcast_S4x8192_S4x8192x1_0_1 a)

def refExp : FVec Ideal S4x8192x64 .f32 := Host.exp (subf (refLogits x w) (spread (refMax x w)))

def refProbs : FVec Ideal S4x8192x64 .f32 :=
  Host.divf (refExp x w)
    (spread (Host.reduceAdd (refExp x w) (constant S_ .f32 0x00000000#32) reducesTo_S4x8192x64_S4x8192_d2 h_S_))

/-- The two largest probabilities of each token and the numbers of their experts. -/
def refTop : (S4x8192x2.Idx → EReal) × IVec S4x8192x2 32 :=
  Host.topK S4x8192x2 2 (FloatOps.cmpfTotal (F := Ideal) (φ := .f32) .gt) (refProbs x w) sliceFits_S4x8192x64_S4x8192x2

end Values

theorem spread_apply (a : FVec Ideal S4x8192 .f32) (b : Fin 4) (s : Fin 8192) (e : Fin 64) :
    spread a (ix3 b s e) = a (ix2 b s) := by
  pointwise [spread]

theorem minus_infinity : Ideal.ofBits FTy.f32 4286578688#32 = ⊥ := by simp [Ideal.ofBits, Ideal.ieee]

/-! ## The probabilities -/

section Read

variable {x : FVec Ideal S4x8192x768 .f32} {w : FVec Ideal S64x768 .f32} (hx : AllReal x) (hw : AllReal w)

include hx hw

theorem refLogits_apply (b : Fin 4) (s : Fin 8192) (e : Fin 64) :
    refLogits x w (ix3 b s e) = ((row x w b s e : ℝ) : EReal) := by
  pointwise [refLogits]
  exact logit_eq_row hx hw b s e

/-- The largest logit is the first pick's. -/
theorem refMax_apply (b : Fin 4) (s : Fin 8192) :
    refMax x w (ix2 b s) = ((row x w b s (picks x w b s).1 : ℝ) : EReal) := by
  pointwise [refMax]
  rw [minus_infinity, max_eq_right bot_le]
  simp only [refLogits_apply hx hw]
  exact fold_max_eq (fun e => EReal.coe_le_coe_iff.mpr ((isTop2_picks x w b s).le_a e)) ⟨_, rfl⟩

theorem refExp_apply (b : Fin 4) (s : Fin 8192) (e : Fin 64) :
    refExp x w (ix3 b s e) = ((Real.exp (row x w b s e - row x w b s (picks x w b s).1) : ℝ) : EReal) := by
  pointwise [refExp]
  rw [refLogits_apply hx hw, spread_apply, refMax_apply hx hw, exp_sub_coe]

theorem refProbs_apply (b : Fin 4) (s : Fin 8192) (e : Fin 64) :
    refProbs x w (ix3 b s e) = ((tokenProb x w e b s : ℝ) : EReal) := by
  pointwise [refProbs]
  rw [spread_apply]
  pointwise []
  simp only [refExp_apply hx hw]
  rw [sum_coe, ← den, div_coe_coe _ (den_pos _ _).ne']
  rfl

/-! ## The top two -/

theorem isTop2_probs (b : Fin 4) (s : Fin 8192) :
    IsTop2 (fun e => tokenProb x w e b s) (picks x w b s).1 (picks x w b s).2 :=
  (isTop2_picks x w b s).comp (prob_strictMono (row x w b s) (picks x w b s).1)

/-- The stable sort by the probability, largest first, puts the first pick at place 0 and the second at place 1. -/
theorem sorted_probs (b : Fin 4) (s : Fin 8192) (k : Fin 2) :
    sortedFrom (fun q q' => Ideal.cmp .ogt (refProbs x w (ix3 b s q)) (refProbs x w (ix3 b s q')) == 1#1)
      (⟨k.val, by omega⟩ : Fin 64) = pick x w b s k := by
  obtain ⟨h0, h1⟩ := sortedFrom_top2 (isTop2_probs hx hw b s)
    (fun q q' => Ideal.cmp .ogt (refProbs x w (ix3 b s q)) (refProbs x w (ix3 b s q')) == 1#1) fun q q' => by
      rw [refProbs_apply hx hw, refProbs_apply hx hw]
      show (BitVec.ofBool (decide ((tokenProb x w q' b s : EReal) < (tokenProb x w q b s : EReal))) == 1#1) = _
      rw [decide_eq_decide.mpr EReal.coe_lt_coe_iff]
      cases decide (tokenProb x w q' b s < tokenProb x w q b s) <;> rfl
  fin_cases k
  · exact h0
  · exact h1

omit hx hw in
theorem along_experts (b : Fin 4) (s : Fin 8192) (k q : Fin 64) :
    (ix3 b s k : S4x8192x64.Idx).along (2 : Fin 3) q = ix3 b s q := by
  funext a
  fin_cases a <;> rfl

omit hx hw in
/-- A sort along the experts reads, at a place, the entry that the order of the token's row puts there. -/
theorem sort_experts (P : FVec Ideal S4x8192x64 .f32) (I : S4x8192x64.Idx → BitVec 32) (b : Fin 4) (s : Fin 8192) (k : Fin 64) :
    (Host.sort2 S4x8192x64 2 (fun l r => FloatOps.cmpfTotal (F := Ideal) (φ := .f32) CmpDirection.gt l.1 r.1) P I).1 (ix3 b s k)
      = P (ix3 b s (sortedFrom (fun q q' => Ideal.cmp .ogt (P (ix3 b s q)) (P (ix3 b s q')) == 1#1) k))
    ∧ (Host.sort2 S4x8192x64 2 (fun l r => FloatOps.cmpfTotal (F := Ideal) (φ := .f32) CmpDirection.gt l.1 r.1) P I).2 (ix3 b s k)
      = I (ix3 b s (sortedFrom (fun q q' => Ideal.cmp .ogt (P (ix3 b s q)) (P (ix3 b s q')) == 1#1) k)) := by
  have hπ : (sortedFrom (fun q q' : Fin 64 => Ideal.cmp .ogt (P ((ix3 b s k : S4x8192x64.Idx).along (2 : Fin 3) q))
      (P ((ix3 b s k : S4x8192x64.Idx).along (2 : Fin 3) q')) == 1#1) k)
      = sortedFrom (fun q q' => Ideal.cmp .ogt (P (ix3 b s q)) (P (ix3 b s q')) == 1#1) k := by
    simp only [along_experts]
  unfold Host.sort2
  rw [dif_pos (show 2 < S4x8192x64.rank by decide)]
  exact ⟨congrArg P ((along_experts b s k _).trans (congrArg (ix3 b s) hπ)),
    congrArg I ((along_experts b s k _).trans (congrArg (ix3 b s) hπ))⟩

theorem refTop_values (b : Fin 4) (s : Fin 8192) (k : Fin 2) :
    (refTop x w).1 (ix3 b s k) = ((tokenProb x w (pick x w b s k) b s : ℝ) : EReal) := by
  pointwise [refTop, Host.topK]
  rw [(sort_experts _ _ b s ⟨k.val, by omega⟩).1, sorted_probs hx hw, refProbs_apply hx hw]

theorem refTop_indices (b : Fin 4) (s : Fin 8192) (k : Fin 2) :
    (refTop x w).2 (ix3 b s k) = BitVec.ofNat 32 (pick x w b s k).val := by
  pointwise [refTop, Host.topK]
  rw [(sort_experts _ _ b s ⟨k.val, by omega⟩).2, sorted_probs hx hw]
  rfl

end Read

end Cert.Proof

end
-- ==== Proof.RefResults.lean ====
/-
  The three results of the reference, on real arguments: the numbers of the top two, their shares (the sum they are divided
  by is at least a 64th, so the clip at 1e-8 leaves it), and the aux loss from the mean probabilities and the shares of the
  picks.
-/
module

public import proofs.«01_k».proof.Proof.RefProbs

@[expose] public section

set_option maxRecDepth 16384

noncomputable section

namespace Cert.Proof

open Idealize.ShloMosaic Idealize.ShloMosaic.TcCoe Idealize.SL.Sem
open Cert.ReferenceIdeal Cert.ReferenceIdeal.Gen Cert.ReferenceIdeal.Facts

/-! ## The results by name -/

section Values

/-- The values over their sum, the sum clipped from below. -/
def refWeights (v : FVec Ideal S4x8192x2 .f32) : FVec Ideal S4x8192x2 .f32 :=
  Host.divf v (broadcastInDim S4x8192x2 ![0, 1, 2] bcast_S4x8192x1_S4x8192x2_0_1_2
    (maximumf (broadcastInDim S4x8192x1 ![] bcast_S_S4x8192x1 (id (constant S_ .f32 0x322BCC77#32)))
      (broadcastInDim S4x8192x1 ![0, 1] bcast_S4x8192_S4x8192x1_0_1
        (Host.reduceAdd v (constant S_ .f32 0x00000000#32) reducesTo_S4x8192x2_S4x8192_d2 h_S_))))

/-- The sum over the tokens, for each expert. -/
def refTotal (z : FVec Ideal S4x8192x64 .f32) : FVec Ideal S64 .f32 :=
  Host.reduceAdd z (constant S_ .f32 0x00000000#32) reducesTo_S4x8192x64_S64_d0_1 h_S_

/-- The picks of each token counted per expert. -/
def refHits (n : IVec S4x8192x2 32) : FVec Ideal S4x8192x64 .f32 :=
  Host.reduceAdd (uitofp .f32 (cmpi .eq
      (broadcastInDim S4x8192x2x64 ![0, 1, 2, 3] bcast_S4x8192x2x1_S4x8192x2x64_0_1_2_3
        (broadcastInDim S4x8192x2x1 ![0, 1, 2] bcast_S4x8192x2_S4x8192x2x1_0_1_2 n))
      (broadcastInDim S4x8192x2x64 ![0, 1, 2, 3] bcast_S1x1x1x64_S4x8192x2x64_0_1_2_3 (iotaInDim S1x1x1x64 32 3))))
    (constant S_ .f32 0x00000000#32) reducesTo_S4x8192x2x64_S4x8192x64_d2 h_S_

def refAux (p h : FVec Ideal S4x8192x64 .f32) : FVec Ideal S_ .f32 :=
  Host.reduceAdd (mulf (broadcastInDim S64 ![] bcast_S_S64 (constant S_ .f32 0x42800000#32))
      (mulf (Host.divf (refTotal p) (broadcastInDim S64 ![] bcast_S_S64 (constant S_ .f32 0x47000000#32)))
        (Host.divf (refTotal h) (broadcastInDim S64 ![] bcast_S_S64 (constant S_ .f32 0x47800000#32)))))
    (constant S_ .f32 0x00000000#32) reducesTo_S64_S_d0 h_S_

end Values

/-! ## Constants -/

theorem word_64 : Ideal.ofBits FTy.f32 1115684864#32 = ((64 : ℝ) : EReal) := by
  simp [Ideal.ofBits, Ideal.ieee]; rw [← EReal.coe_mul]; norm_num

theorem word_32768 : Ideal.ofBits FTy.f32 1191182336#32 = ((32768 : ℝ) : EReal) := by
  simp [Ideal.ofBits, Ideal.ieee]; rw [← EReal.coe_mul]; norm_num

theorem word_65536 : Ideal.ofBits FTy.f32 1199570944#32 = ((65536 : ℝ) : EReal) := by
  simp [Ideal.ofBits, Ideal.ieee]; rw [← EReal.coe_mul]; norm_num

/-- The clip's bound is below a 64th. -/
theorem word_clip : Ideal.ofBits FTy.f32 841731191#32 ≤ ((1 / 64 : ℝ) : EReal) := by
  simp only [Ideal.ofBits, Ideal.ieee]
  simp
  rw [← EReal.coe_mul]
  exact EReal.coe_le_coe_iff.mpr (by norm_num)

/-! ## The sum over the tokens -/

theorem drop_tokens (h : S4x8192x64.ReducesTo [0, 1] S64) (b : Fin 4) (s : Fin 8192) (e : Fin 64) :
    h.drop (ix3 b s e) = ix1 e := by
  funext a
  have : a = 0 := Subsingleton.elim _ _
  subst this
  rfl

theorem refTotal_apply {z : FVec Ideal S4x8192x64 .f32} {f : Fin 64 → Fin 4 → Fin 8192 → ℝ}
    (hz : ∀ b s e, z (ix3 b s e) = ((f e b s : ℝ) : EReal)) (e : Fin 64) :
    refTotal z (ix1 e) = ((total (f e) : ℝ) : EReal) := by
  pointwise [refTotal]
  unfold Ideal.hostReduceAdd
  rw [zero_add, total, ← Fintype.sum_prod_type' (f e), ← sum_coe]
  have hlast : ∀ i : S4x8192x64.Idx, reducesTo_S4x8192x64_S64_d0_1.drop i = ix1 e → i = ix3 (i 0) (i 1) e := fun i hi => by
    idx_vars i
    have := congrFun (hi.symm.trans (drop_tokens _ _ _ _)) 0
    subst this
    rfl
  refine Finset.sum_bij' (fun i _ => ((i 0, i 1) : Fin 4 × Fin 8192)) (fun p _ => ix3 p.1 p.2 e) (fun _ _ => Finset.mem_univ _)
    (fun p _ => Finset.mem_filter.mpr ⟨Finset.mem_univ _, drop_tokens _ _ _ _⟩)
    (fun i hi => (hlast i (Finset.mem_filter.mp hi).2).symm) (fun p _ => rfl) fun i hi => ?_
  rw [hlast i (Finset.mem_filter.mp hi).2]
  exact hz _ _ _

/-! ## The results -/

section Read

variable {x : FVec Ideal S4x8192x768 .f32} {w : FVec Ideal S64x768 .f32} (hx : AllReal x) (hw : AllReal w)

include hx hw

theorem ref_index : (refTop x w).2 = indexOut x w := by
  funext y
  idx_vars y
  exact refTop_indices hx hw y0 y1 y2

/-- The weights are the shares of the two largest probabilities in their sum. -/
theorem ref_weight : refWeights (refTop x w).1 = weightOut x w := by
  funext y
  idx_vars y
  pointwise [refWeights]
  simp only [refTop_values hx hw]
  rw [Fin.sum_univ_two, ← EReal.coe_add]
  have hfirst : tokenProb x w (pick x w y0 y1 0) y0 y1 = prob (row x w y0 y1) (picks x w y0 y1).1 (picks x w y0 y1).1 := rfl
  have hsecond : tokenProb x w (pick x w y0 y1 1) y0 y1 = prob (row x w y0 y1) (picks x w y0 y1).1 (picks x w y0 y1).2 := rfl
  have hge := one_div_le_prob (row x w y0 y1) (picks x w y0 y1).1 (isTop2_picks x w y0 y1).le_a
  have hpos : 0 < prob (row x w y0 y1) (picks x w y0 y1).1 (picks x w y0 y1).2 := div_pos (Real.exp_pos _) (den_pos _ _)
  have hclip : (id (constant S_ .f32 0x322BCC77#32) : FVec Ideal S_ .f32) ix0 ≤ ((1 / 64 : ℝ) : EReal) := word_clip
  rw [hfirst, hsecond, max_eq_right (hclip.trans (EReal.coe_le_coe_iff.mpr (hge.trans (by linarith)))),
    div_coe_coe _ (by linarith)]
  show _ = ((weight x w y0 y1 y2 : ℝ) : EReal)
  fin_cases y2
  · exact congrArg _ (share_first _ _ _)
  · exact congrArg _ (share_second _ _ _)

/-- A token's two picks differ, so its count of an expert is one or zero. -/
theorem refHits_apply (b : Fin 4) (s : Fin 8192) (e : Fin 64) :
    refHits (refTop x w).2 (ix3 b s e) = ((tokenHit x w e b s : ℝ) : EReal) := by
  pointwise [refHits]
  simp only [refTop_indices hx hw]
  have hword : ∀ e' : Fin 64, (FloatOps.uitofp (F := Ideal) FTy.f32
      (IntOp.cmpi .eq (BitVec.ofNat 32 e'.val) (BitVec.ofNat 32 e.val)) : EReal) = ((if e = e' then 1 else 0 : ℝ) : EReal) :=
    fun e' => by
      by_cases h : e = e'
      · subst h
        rw [if_pos rfl]
        show FloatOps.uitofp (F := Ideal) FTy.f32 (BitVec.ofBool (BitVec.ofNat 32 e.val == BitVec.ofNat 32 e.val)) = _
        rw [beq_self_eq_true]
        show (((1#1 : BitVec 1).toNat : ℝ) : EReal) = _
        norm_num
      · rw [if_neg h]
        show FloatOps.uitofp (F := Ideal) FTy.f32 (BitVec.ofBool (BitVec.ofNat 32 e'.val == BitVec.ofNat 32 e.val)) = _
        rw [beq_eq_false_iff_ne.mpr fun he => h ((ofNat_fin_inj e' e).mp he).symm]
        show (((0#1 : BitVec 1).toNat : ℝ) : EReal) = _
        norm_num
  simp only [hword]
  rw [Fin.sum_univ_two, ← EReal.coe_add]
  refine congrArg _ ?_
  show (if e = (picks x w b s).1 then (1 : ℝ) else 0) + (if e = (picks x w b s).2 then 1 else 0)
    = if e = (picks x w b s).1 ∨ e = (picks x w b s).2 then 1 else 0
  have hne := (isTop2_picks x w b s).ne
  by_cases h1 : e = (picks x w b s).1
  · rw [if_pos h1, if_neg fun h2 => hne (h2.symm.trans h1), if_pos (Or.inl h1), add_zero]
  · rw [if_neg h1, zero_add]
    by_cases h2 : e = (picks x w b s).2
    · rw [if_pos h2, if_pos (Or.inr h2)]
    · rw [if_neg h2, if_neg (not_or.mpr ⟨h1, h2⟩)]

theorem ref_aux : refAux (refProbs x w) (refHits (refTop x w).2) = auxOut x w := by
  funext y
  pointwise [refAux]
  simp only [refTotal_apply (refProbs_apply hx hw), refTotal_apply (refHits_apply hx hw), word_64, word_32768, word_65536]
  simp only [div_coe_coe _ (show (32768 : ℝ) ≠ 0 by norm_num), div_coe_coe _ (show (65536 : ℝ) ≠ 0 by norm_num), ← EReal.coe_mul]
  rw [sum_coe]
  refine congrArg _ (Finset.sum_congr rfl fun e _ => ?_)
  rw [mul_assoc]

end Read

/-! ## The run -/

/-- The reference ends with the three results, its arguments as they were. -/
theorem reference_run (m : (ℓ : Loc nD τ sig) → Buf (Elt Ideal) ℓ) (g : Dev nD → PrngReg)
    (hx : ∀ c : Dev nD, AllReal (m ((c.tc : Thread nD τ).loc main_arg0) : S4x8192x768.Idx → EReal))
    (hw : ∀ c : Dev nD, AllReal (m ((c.tc : Thread nD τ).loc main_arg1) : S64x768.Idx → EReal)) :
    θ_run (defs (F := Ideal)) (onTc (τ := τ) (main (F := Ideal))) ⟨m, fun _ => 0, g⟩ (fun r => ∀ c : Dev nD,
      r.2.mem ((c.tc : Thread nD τ).loc main_indices)
        = indexOut (m ((c.tc : Thread nD τ).loc main_arg0)) (m ((c.tc : Thread nD τ).loc main_arg1))
      ∧ r.2.mem ((c.tc : Thread nD τ).loc main_v16)
        = weightOut (m ((c.tc : Thread nD τ).loc main_arg0)) (m ((c.tc : Thread nD τ).loc main_arg1))
      ∧ r.2.mem ((c.tc : Thread nD τ).loc main_v28)
        = auxOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (ref_index (hx c) (hw c)), (h c).2.1.trans (ref_weight (hx c) (hw c)),
    (h c).2.2.1.trans (ref_aux (hx c) (hw c)), (h c).2.2.2.1, (h c).2.2.2.2⟩) (Cert.ReferenceIdeal.Value.run (F := Ideal) m g)

end Cert.Proof

end
-- ==== Proof.Equation.lean ====
/-
  The equation: on real arguments the kernel and the reference both end at the three results of Tokens.lean.
-/
module

public import proofs.«01_k».proof.Defs
public import proofs.«01_k».proof.Proof.Finite
public import proofs.«01_k».proof.Proof.KernelRun
public import proofs.«01_k».proof.Proof.RefResults

@[expose] public section

noncomputable section

namespace Cert.Proof

open Idealize.ShloMosaic Idealize.ShloMosaic.TcCoe Idealize.SL.Sem

theorem algebraic : Cert.algebraic_KernelIdeal_ReferenceIdeal_pre_finite := by
  intro m g m' g' hpre hargs
  have hreal : ∀ c, AllReal (argX m c) ∧ AllReal (argW m c) := fun c => allReal_of_pre (hpre c)
  refine ⟨fun c => indexOut (argX m c) (argW m c), fun c => weightOut (argX m c) (argW m c),
    fun c => auxOut (argX m c) (argW m c), kernel_run m g (fun c => (hreal c).1) fun c => (hreal c).2, ?_⟩
  have hrun := reference_run m' g' (fun c => by rw [(hargs c).1]; exact (hreal c).1) fun c => by
    rw [(hargs c).2]; exact (hreal c).2
  refine (θ_run Cert.ReferenceIdeal.defs _ _).mono (fun r h c => ?_) hrun
  obtain ⟨h0, h1, h2, ha⟩ := h c
  rw [(hargs c).1, (hargs c).2] at h0 h1 h2
  exact ⟨h0, h1, h2, ha⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial, algebraic⟩

end Cert.Proof

end
